-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_one_nearest [hKernelIdeal : Cert.KernelIdeal.Facts] [hReferenceIdeal : Cert.ReferenceIdeal.Facts] [hOn_one_nearest : Cert.On_one_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![65536]⟩ : Shape).Idx, (Cert.On_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![65536]⟩ : Shape).Idx, (Cert.On_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v14) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_nearest [hKernelIdeal : Cert.KernelIdeal.Facts] [hPost_nearest : Cert.Post_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v2))) = (fun _ => 1#1))

def Claim : Prop :=
  ∃ (hKernel : Cert.Kernel.Facts) (hKernelIdeal : Cert.KernelIdeal.Facts) (hReferenceIdeal : Cert.ReferenceIdeal.Facts) (hPost_nearest : Cert.Post_nearest.Facts) (hOn_one_nearest : Cert.On_one_nearest.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_one_nearest (hKernelIdeal := hKernelIdeal) (hReferenceIdeal := hReferenceIdeal) (hOn_one_nearest := hOn_one_nearest)
    ∧ holds_KernelIdeal_nearest (hKernelIdeal := hKernelIdeal) (hPost_nearest := hPost_nearest)
-- ==== On_one_nearest.lean ====
abbrev S65536x64 : Shape := ⟨2, ![65536, 64]⟩
abbrev S1024x64 : Shape := ⟨2, ![1024, 64]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩
abbrev S64x1024 : Shape := ⟨2, ![64, 1024]⟩

class Facts : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S1024x64_S1024_d1 : S1024x64.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  transposes_S1024x64_S64x1024_1_0 : S1024x64.Transposes [1, 0] S64x1024
  bcast_S_S65536x1024 : S_.BroadcastsInDim S65536x1024 (![] : Fin 0 → Fin S65536x1024.rank)
  reducesTo_S65536x1024_S65536_d1 : S65536x1024.ReducesTo [1] S65536
  natLt_1_32 : 1 < 32
  bcast_S_S65536x64 : S_.BroadcastsInDim S65536x64 (![] : Fin 0 → Fin S65536x64.rank)
  bcast_S_S1024x64 : S_.BroadcastsInDim S1024x64 (![] : Fin 0 → Fin S1024x64.rank)
  reducesTo_S1024x64_S_d0_1 : S1024x64.ReducesTo [0, 1] S_
  bcast_S_S65536 : S_.BroadcastsInDim S65536 (![] : Fin 0 → Fin S65536.rank)
  dot_S65536x64_S64x1024_S65536x1024_1_0_0_1_n_n_wf : DotDims.WF S65536x64 S64x1024 S65536x1024 [1] [0] [0] [1] [] []

variable [Facts]

def dot_S65536x64_S64x1024_S65536x1024_1_0_0_1_n_n : DotDims S65536x64 S64x1024 S65536x1024 where
  lhsContracting := [1]
  rhsContracting := [0]
  lhsNonContracting := [0]
  rhsNonContracting := [1]
  lhsBatch := []
  rhsBatch := []
  wf := dot_S65536x64_S64x1024_S65536x1024_1_0_0_1_n_n_wf
def fn_part1 {F : FTy → Type} [FloatOps F] (main_arg0 : FVec F S65536x64 .f32) (main_arg1 : FVec F S1024x64 .f32) (main_v18 : IVec S65536x1024 32) (main_c : IVec S_ 32) : IVec S65536 1 :=
  let main_v19 : IVec S65536 32 := (fun x v => Host.reduce IntOp.addi x v reducesTo_S65536x1024_S65536_d1 h_S_) main_v18 main_c
  let main_v20 : FVec F S65536x64 .f32 := Host.absf main_arg0
  let main_cst_3 : FVec F S_ .f32 := constant S_ .f32 0x7F800000#32
  let main_v21 : FVec F S65536x64 .f32 := broadcastInDim S65536x64 ![] bcast_S_S65536x64 main_cst_3
  let main_v22 : IVec S65536x64 1 := cmpf .olt main_v20 main_v21
  let main_c_4 : IVec S_ 1 := constantI S_ 1 1#1
  let main_v23 : IVec S65536 1 := (fun x v => Host.reduce IntOp.andi x v reducesTo_S65536x64_S65536_d1 h_S_) main_v22 main_c_4
  let main_v24 : FVec F S1024x64 .f32 := Host.absf main_arg1
  let main_cst_5 : FVec F S_ .f32 := constant S_ .f32 0x7F800000#32
  let main_v25 : FVec F S1024x64 .f32 := broadcastInDim S1024x64 ![] bcast_S_S1024x64 main_cst_5
  let main_v26 : IVec S1024x64 1 := cmpf .olt main_v24 main_v25
  let main_c_6 : IVec S_ 1 := constantI S_ 1 1#1
  let main_v27 : IVec S_ 1 := (fun x v => Host.reduce IntOp.andi x v reducesTo_S1024x64_S_d0_1 h_S_) main_v26 main_c_6
  let main_v28 : IVec S65536 1 := broadcastInDim S65536 ![] bcast_S_S65536 main_v27
  let main_v29 : IVec S65536 1 := andi main_v23 main_v28
  let main_c_7 : IVec S_ 32 := constantI S_ 32 1#32
  let main_v30 : IVec S65536 32 := broadcastInDim S65536 ![] bcast_S_S65536 main_c_7
  let main_v31 : IVec S65536 1 := cmpi .eq main_v19 main_v30
  let main_v32 : IVec S65536 1 := andi main_v31 main_v29
  main_v32

def fn {F : FTy → Type} [FloatOps F] (main_arg0 : FVec F S65536x64 .f32) (main_arg1 : FVec F S1024x64 .f32) : IVec S65536 1 :=
  let main_v0 : FVec F S65536x64 .f32 := mulf main_arg0 main_arg0
  let main_cst : FVec F S_ .f32 := constant S_ .f32 0x00000000#32
  let main_v1 : FVec F S65536 .f32 := (fun x v => Host.reduceAdd x v reducesTo_S65536x64_S65536_d1 h_S_) main_v0 main_cst
  let main_v2 : FVec F S65536x1 .f32 := broadcastInDim S65536x1 ![0] bcast_S65536_S65536x1_0 main_v1
  let main_v3 : FVec F S1024x64 .f32 := mulf main_arg1 main_arg1
  let main_cst_0 : FVec F S_ .f32 := constant S_ .f32 0x00000000#32
  let main_v4 : FVec F S1024 .f32 := (fun x v => Host.reduceAdd x v reducesTo_S1024x64_S1024_d1 h_S_) main_v3 main_cst_0
  let main_v5 : FVec F S1x1024 .f32 := broadcastInDim S1x1024 ![1] bcast_S1024_S1x1024_1 main_v4
  let main_v6 : FVec F S65536x1024 .f32 := broadcastInDim S65536x1024 ![0, 1] bcast_S65536x1_S65536x1024_0_1 main_v2
  let main_v7 : FVec F S65536x1024 .f32 := broadcastInDim S65536x1024 ![0, 1] bcast_S1x1024_S65536x1024_0_1 main_v5
  let main_v8 : FVec F S65536x1024 .f32 := addf main_v6 main_v7
  let main_v9 : FVec F S64x1024 .f32 := (transpose S64x1024 [1, 0] · transposes_S1024x64_S64x1024_1_0) main_arg1
  let main_v10 : FVec F S65536x1024 .f32 := (fun l r => Host.dotGeneral dot_S65536x64_S64x1024_S65536x1024_1_0_0_1_n_n none l r) main_arg0 main_v9
  let main_cst_1 : FVec F S_ .f32 := constant S_ .f32 0x40000000#32
  let main_v11 : FVec F S65536x1024 .f32 := broadcastInDim S65536x1024 ![] bcast_S_S65536x1024 main_cst_1
  let main_v12 : FVec F S65536x1024 .f32 := mulf main_v11 main_v10
  let main_v13 : FVec F S65536x1024 .f32 := subf main_v8 main_v12
  let main_cst_2 : FVec F S_ .f32 := constant S_ .f32 0x7F800000#32
  let main_v14 : FVec F S65536 .f32 := (fun x v => Host.reduce FloatOps.minimumf x v reducesTo_S65536x1024_S65536_d1 h_S_) main_v13 main_cst_2
  let main_v15 : FVec F S65536x1 .f32 := broadcastInDim S65536x1 ![0] bcast_S65536_S65536x1_0 main_v14
  let main_v16 : FVec F S65536x1024 .f32 := broadcastInDim S65536x1024 ![0, 1] bcast_S65536x1_S65536x1024_0_1 main_v15
  let main_v17 : IVec S65536x1024 1 := cmpf .oeq main_v13 main_v16
  let main_v18 : IVec S65536x1024 32 := (extui 32 · natLt_1_32) main_v17
  let main_c : IVec S_ 32 := constantI S_ 32 0#32
  fn_part1 (F := F) main_arg0 main_arg1 main_v18 main_c
-- ==== Post_nearest.lean ====
abbrev S65536x64 : Shape := ⟨2, ![65536, 64]⟩
abbrev S1024x64 : Shape := ⟨2, ![1024, 64]⟩
abbrev S65536 : Shape := ⟨1, ![65536]⟩
abbrev S_ : Shape := ⟨0, ![]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩
abbrev S64x1024 : Shape := ⟨2, ![64, 1024]⟩

class Facts : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S1024x64_S1024_d1 : S1024x64.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  transposes_S1024x64_S64x1024_1_0 : S1024x64.Transposes [1, 0] S64x1024
  bcast_S_S65536x1024 : S_.BroadcastsInDim S65536x1024 (![] : Fin 0 → Fin S65536x1024.rank)
  reducesTo_S65536x1024_S65536_d1 : S65536x1024.ReducesTo [1] S65536
  bcast_S_S65536x64 : S_.BroadcastsInDim S65536x64 (![] : Fin 0 → Fin S65536x64.rank)
  bcast_S_S1024x64 : S_.BroadcastsInDim S1024x64 (![] : Fin 0 → Fin S1024x64.rank)
  reducesTo_S1024x64_S_d0_1 : S1024x64.ReducesTo [0, 1] S_
  bcast_S_S65536 : S_.BroadcastsInDim S65536 (![] : Fin 0 → Fin S65536.rank)
  dot_S65536x64_S64x1024_S65536x1024_1_0_0_1_n_n_wf : DotDims.WF S65536x64 S64x1024 S65536x1024 [1] [0] [0] [1] [] []

variable [Facts]

def dot_S65536x64_S64x1024_S65536x1024_1_0_0_1_n_n : DotDims S65536x64 S64x1024 S65536x1024 where
  lhsContracting := [1]
  rhsContracting := [0]
  lhsNonContracting := [0]
  rhsNonContracting := [1]
  lhsBatch := []
  rhsBatch := []
  wf := dot_S65536x64_S64x1024_S65536x1024_1_0_0_1_n_n_wf
def fn_part1 {F : FTy → Type} [FloatOps F] (main_arg0 : FVec F S65536x64 .f32) (main_arg1 : FVec F S1024x64 .f32) (main_v13 : FVec F S65536x1024 .f32) (main_v15 : FVec F S65536x1 .f32) (main_v18 : IVec S65536x1 32) (main_v19 : IVec S65536x1024 32) : IVec S65536 1 :=
  let main_v20 : IVec S65536x1024 32 := broadcastInDim S65536x1024 ![0, 1] bcast_S65536x1_S65536x1024_0_1 main_v18
  let main_v21 : IVec S65536x1024 1 := cmpi .eq main_v19 main_v20
  let main_v22 : FVec F S65536x64 .f32 := Host.absf main_arg0
  let main_cst_3 : FVec F S_ .f32 := constant S_ .f32 0x7F800000#32
  let main_v23 : FVec F S65536x64 .f32 := broadcastInDim S65536x64 ![] bcast_S_S65536x64 main_cst_3
  let main_v24 : IVec S65536x64 1 := cmpf .olt main_v22 main_v23
  let main_c : IVec S_ 1 := constantI S_ 1 1#1
  let main_v25 : IVec S65536 1 := (fun x v => Host.reduce IntOp.andi x v reducesTo_S65536x64_S65536_d1 h_S_) main_v24 main_c
  let main_v26 : FVec F S1024x64 .f32 := Host.absf main_arg1
  let main_cst_4 : FVec F S_ .f32 := constant S_ .f32 0x7F800000#32
  let main_v27 : FVec F S1024x64 .f32 := broadcastInDim S1024x64 ![] bcast_S_S1024x64 main_cst_4
  let main_v28 : IVec S1024x64 1 := cmpf .olt main_v26 main_v27
  let main_c_5 : IVec S_ 1 := constantI S_ 1 1#1
  let main_v29 : IVec S_ 1 := (fun x v => Host.reduce IntOp.andi x v reducesTo_S1024x64_S_d0_1 h_S_) main_v28 main_c_5
  let main_v30 : IVec S65536 1 := broadcastInDim S65536 ![] bcast_S_S65536 main_v29
  let main_v31 : IVec S65536 1 := andi main_v25 main_v30
  let main_v32 : FVec F S65536x1024 .f32 := broadcastInDim S65536x1024 ![0, 1] bcast_S65536x1_S65536x1024_0_1 main_v15
  let main_v33 : IVec S65536x1024 1 := cmpf .oeq main_v13 main_v32
  let main_v34 : IVec S65536x1024 1 := andi main_v21 main_v33
  let main_c_6 : IVec S_ 1 := constantI S_ 1 0#1
  let main_v35 : IVec S65536 1 := (fun x v => Host.reduce IntOp.ori x v reducesTo_S65536x1024_S65536_d1 h_S_) main_v34 main_c_6
  let main_v36 : IVec S65536 1 := noti main_v31
  let main_v37 : IVec S65536 1 := ori main_v35 main_v36
  main_v37

def fn {F : FTy → Type} [FloatOps F] (main_arg0 : FVec F S65536x64 .f32) (main_arg1 : FVec F S1024x64 .f32) (main_arg2 : IVec S65536 32) : IVec S65536 1 :=
  let main_v0 : FVec F S65536x64 .f32 := mulf main_arg0 main_arg0
  let main_cst : FVec F S_ .f32 := constant S_ .f32 0x00000000#32
  let main_v1 : FVec F S65536 .f32 := (fun x v => Host.reduceAdd x v reducesTo_S65536x64_S65536_d1 h_S_) main_v0 main_cst
  let main_v2 : FVec F S65536x1 .f32 := broadcastInDim S65536x1 ![0] bcast_S65536_S65536x1_0 main_v1
  let main_v3 : FVec F S1024x64 .f32 := mulf main_arg1 main_arg1
  let main_cst_0 : FVec F S_ .f32 := constant S_ .f32 0x00000000#32
  let main_v4 : FVec F S1024 .f32 := (fun x v => Host.reduceAdd x v reducesTo_S1024x64_S1024_d1 h_S_) main_v3 main_cst_0
  let main_v5 : FVec F S1x1024 .f32 := broadcastInDim S1x1024 ![1] bcast_S1024_S1x1024_1 main_v4
  let main_v6 : FVec F S65536x1024 .f32 := broadcastInDim S65536x1024 ![0, 1] bcast_S65536x1_S65536x1024_0_1 main_v2
  let main_v7 : FVec F S65536x1024 .f32 := broadcastInDim S65536x1024 ![0, 1] bcast_S1x1024_S65536x1024_0_1 main_v5
  let main_v8 : FVec F S65536x1024 .f32 := addf main_v6 main_v7
  let main_v9 : FVec F S64x1024 .f32 := (transpose S64x1024 [1, 0] · transposes_S1024x64_S64x1024_1_0) main_arg1
  let main_v10 : FVec F S65536x1024 .f32 := (fun l r => Host.dotGeneral dot_S65536x64_S64x1024_S65536x1024_1_0_0_1_n_n none l r) main_arg0 main_v9
  let main_cst_1 : FVec F S_ .f32 := constant S_ .f32 0x40000000#32
  let main_v11 : FVec F S65536x1024 .f32 := broadcastInDim S65536x1024 ![] bcast_S_S65536x1024 main_cst_1
  let main_v12 : FVec F S65536x1024 .f32 := mulf main_v11 main_v10
  let main_v13 : FVec F S65536x1024 .f32 := subf main_v8 main_v12
  let main_cst_2 : FVec F S_ .f32 := constant S_ .f32 0x7F800000#32
  let main_v14 : FVec F S65536 .f32 := (fun x v => Host.reduce FloatOps.minimumf x v reducesTo_S65536x1024_S65536_d1 h_S_) main_v13 main_cst_2
  let main_v15 : FVec F S65536x1 .f32 := broadcastInDim S65536x1 ![0] bcast_S65536_S65536x1_0 main_v14
  let main_v16 : IVec S1024 32 := iotaInDim S1024 32 0
  let main_v17 : IVec S1x1024 32 := broadcastInDim S1x1024 ![1] bcast_S1024_S1x1024_1 main_v16
  let main_v18 : IVec S65536x1 32 := broadcastInDim S65536x1 ![0] bcast_S65536_S65536x1_0 main_arg2
  let main_v19 : IVec S65536x1024 32 := broadcastInDim S65536x1024 ![0, 1] bcast_S1x1024_S65536x1024_0_1 main_v17
  fn_part1 (F := F) main_arg0 main_arg1 main_v13 main_v15 main_v18 main_v19
-- ==== Kernel.lean ====
abbrev S65536x64 : Shape := ⟨2, ![65536, 64]⟩
abbrev S1024x64 : Shape := ⟨2, ![1024, 64]⟩
abbrev S64x65536 : Shape := ⟨2, ![64, 65536]⟩
abbrev S8x1x8192 : Shape := ⟨3, ![8, 1, 8192]⟩
abbrev S64x8192 : Shape := ⟨2, ![64, 8192]⟩
abbrev S1x1x8192 : Shape := ⟨3, ![1, 1, 8192]⟩
abbrev S1024x8192 : Shape := ⟨2, ![1024, 8192]⟩
abbrev S1024 : Shape := ⟨1, ![1024]⟩
abbrev S1024x1 : Shape := ⟨2, ![1024, 1]⟩
abbrev S512x8192 : Shape := ⟨2, ![512, 8192]⟩
abbrev S256x8192 : Shape := ⟨2, ![256, 8192]⟩
abbrev S128x8192 : Shape := ⟨2, ![128, 8192]⟩
abbrev S32x8192 : Shape := ⟨2, ![32, 8192]⟩
abbrev S16x8192 : Shape := ⟨2, ![16, 8192]⟩
abbrev S8x8192 : Shape := ⟨2, ![8, 8192]⟩
abbrev S8192 : Shape := ⟨1, ![8192]⟩
abbrev S1x8192 : Shape := ⟨2, ![1, 8192]⟩
abbrev S65536 : Shape := ⟨1, ![65536]⟩

abbrev nBuf : Space → Nat
  | .hbm => 5
  | .vmem => 5
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S64x65536, .f32⟩
  | .hbm, ⟨3, _⟩ => ⟨S8x1x8192, .i32⟩
  | .hbm, ⟨4, _⟩ => ⟨S65536, .i32⟩
  | .local _ .vmem, ⟨0, _⟩ => ⟨S64x8192, .f32⟩
  | .local _ .vmem, ⟨1, _⟩ => ⟨S64x8192, .f32⟩
  | .local _ .vmem, ⟨2, _⟩ => ⟨S1024x64, .f32⟩
  | .local _ .vmem, ⟨3, _⟩ => ⟨S1x1x8192, .i32⟩
  | .local _ .vmem, ⟨4, _⟩ => ⟨S1x1x8192, .i32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S65536x64 : Shape := ⟨2, ![65536, 64]⟩
abbrev S1024x64 : Shape := ⟨2, ![1024, 64]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩
abbrev S64x1024 : Shape := ⟨2, ![64, 1024]⟩

abbrev nBuf : Space → Nat
  | .hbm => 24
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S65536x64, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S64x1024, .f32⟩
  | .hbm, ⟨14, _⟩ => ⟨S65536x1024, .f32⟩
  | .hbm, ⟨15, _⟩ => ⟨S_, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .i32⟩
  | .hbm, ⟨20, _⟩ => ⟨S_, .f32⟩
  | .hbm, ⟨21, _⟩ => ⟨S_, .i32⟩
  | .hbm, ⟨22, _⟩ => ⟨S65536, .f32⟩
  | .hbm, ⟨23, _⟩ => ⟨S65536, .i32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Proof.Tournament.lean ====
/-
  The tournament over the rows of one column: halving keeps a row that holds the column's greatest
  value, together with the code it came from; the last step reads off such a code.
-/
module

public import proofs.«01_k».proof.Proof.Gen.KernelIdeal.Skeleton
public import Idealize.ShloMosaic.Lib.Pointwise

@[expose] public section

set_option maxRecDepth 16384

noncomputable section

open Idealize.ShloMosaic Idealize.SL.Sem

namespace Cert.Tournament

/-- In column `c` of `n` rows, every row holds a code and that code's score, and no code's score is above every row. -/
def Leads (f : Fin 1024 → EReal) (c : Fin 8192) (n : ℕ) (vals : FVec Ideal ⟨2, ![n, 8192]⟩ .f32)
    (ids : IVec ⟨2, ![n, 8192]⟩ 32) : Prop :=
  (∀ r : Fin n, ∃ k : Fin 1024, ids (ix2 r c) = BitVec.ofNat 32 k.val ∧ vals (ix2 r c) = f k)
    ∧ ∀ k : Fin 1024, ∃ r : Fin n, f k ≤ vals (ix2 r c)

/-- A slice of `n` rows from row `o` on, read at row `r`. -/
theorem rows_apply {α : Type} {N n : ℕ} (o : ℕ) (x : (⟨2, ![N, 8192]⟩ : Shape).Idx → α)
    (h : (⟨2, ![N, 8192]⟩ : Shape).Slices ![o, 0] ⟨2, ![n, 8192]⟩) (r : Fin n) (c : Fin 8192) (hr : o + r.val < N) :
    extractStridedSlice ⟨2, ![n, 8192]⟩ ![o, 0] x h (ix2 r c) = x (ix2 ⟨o + r.val, hr⟩ c) := by
  refine congrArg x (funext fun a => Fin.ext ?_)
  fin_cases a <;> simp

/-- One halving: rows `r` and `r + n` meet, the greater value stays with its code, the first on equal values. -/
theorem Leads.halve {f : Fin 1024 → EReal} {c : Fin 8192} {N n : ℕ} (hN : N = n + n)
    {V : FVec Ideal ⟨2, ![N, 8192]⟩ .f32} {I : IVec ⟨2, ![N, 8192]⟩ 32}
    (h0 : (⟨2, ![N, 8192]⟩ : Shape).Slices ![0, 0] ⟨2, ![n, 8192]⟩)
    (h1 : (⟨2, ![N, 8192]⟩ : Shape).Slices ![n, 0] ⟨2, ![n, 8192]⟩) (L : Leads f c N V I) :
    Leads f c n
      (select (cmpf .oge (extractStridedSlice ⟨2, ![n, 8192]⟩ ![0, 0] V h0) (extractStridedSlice ⟨2, ![n, 8192]⟩ ![n, 0] V h1))
        (extractStridedSlice ⟨2, ![n, 8192]⟩ ![0, 0] V h0) (extractStridedSlice ⟨2, ![n, 8192]⟩ ![n, 0] V h1))
      (select (cmpf .oge (extractStridedSlice ⟨2, ![n, 8192]⟩ ![0, 0] V h0) (extractStridedSlice ⟨2, ![n, 8192]⟩ ![n, 0] V h1))
        (extractStridedSlice ⟨2, ![n, 8192]⟩ ![0, 0] I h0) (extractStridedSlice ⟨2, ![n, 8192]⟩ ![n, 0] I h1)) := by
  have key : ∀ r : Fin n, ∀ (ha : 0 + r.val < N) (hb : n + r.val < N),
      (select (cmpf .oge (extractStridedSlice ⟨2, ![n, 8192]⟩ ![0, 0] V h0) (extractStridedSlice ⟨2, ![n, 8192]⟩ ![n, 0] V h1))
        (extractStridedSlice ⟨2, ![n, 8192]⟩ ![0, 0] V h0) (extractStridedSlice ⟨2, ![n, 8192]⟩ ![n, 0] V h1) (ix2 r c)
          = (if V (ix2 ⟨n + r.val, hb⟩ c) ≤ V (ix2 ⟨0 + r.val, ha⟩ c) then V (ix2 ⟨0 + r.val, ha⟩ c) else V (ix2 ⟨n + r.val, hb⟩ c)))
      ∧ (select (cmpf .oge (extractStridedSlice ⟨2, ![n, 8192]⟩ ![0, 0] V h0) (extractStridedSlice ⟨2, ![n, 8192]⟩ ![n, 0] V h1))
        (extractStridedSlice ⟨2, ![n, 8192]⟩ ![0, 0] I h0) (extractStridedSlice ⟨2, ![n, 8192]⟩ ![n, 0] I h1) (ix2 r c)
          = (if V (ix2 ⟨n + r.val, hb⟩ c) ≤ V (ix2 ⟨0 + r.val, ha⟩ c) then I (ix2 ⟨0 + r.val, ha⟩ c) else I (ix2 ⟨n + r.val, hb⟩ c))) := by
    intro r ha hb
    simp only [ValueIdx.select_apply, ValueIdx.cmpf_apply, rows_apply 0 V h0 r c ha, rows_apply n V h1 r c hb, rows_apply 0 I h0 r c ha,
      rows_apply n I h1 r c hb, Ideal.cmpf_def, Ideal.cmp, Scalar.select]
    generalize V (ix2 ⟨n + r.val, hb⟩ c) = y
    generalize V (ix2 ⟨0 + r.val, ha⟩ c) = x
    by_cases h : y ≤ x <;> simp [h]
  obtain ⟨hall, htop⟩ := L
  constructor
  · intro r
    have ha : 0 + r.val < N := by omega
    have hb : n + r.val < N := by omega
    rw [(key r ha hb).1, (key r ha hb).2]
    split
    · exact hall _
    · exact hall _
  · intro k
    obtain ⟨R, hR⟩ := htop k
    by_cases hlt : R.val < n
    · have ha : 0 + R.val < N := by omega
      have hb : n + R.val < N := by omega
      refine ⟨⟨R.val, hlt⟩, ?_⟩
      rw [(key ⟨R.val, hlt⟩ ha hb).1]
      have e : (⟨0 + R.val, ha⟩ : Fin N) = R := Fin.ext (by simp)
      simp only [e]
      split
      · exact hR
      · next h => exact hR.trans (le_of_lt (not_le.mp h))
    · have ha : 0 + (R.val - n) < N := by omega
      have hb : n + (R.val - n) < N := by omega
      have hr : R.val - n < n := by omega
      refine ⟨⟨R.val - n, hr⟩, ?_⟩
      rw [(key ⟨R.val - n, hr⟩ ha hb).1]
      have e : (⟨n + (R.val - n), hb⟩ : Fin N) = R := Fin.ext (by simp; omega)
      simp only [e]
      split
      · next h => exact hR.trans h
      · exact hR

/-- Folding by the signed minimum gives the start or one of the words, and nothing below it is among the words. -/
theorem fold_minsi {ι : Type} [DecidableEq ι] (init : BitVec 32) (g : ι → BitVec 32) (S : Finset ι) :
    (S.fold IntOp.minsi init g = init ∨ ∃ r ∈ S, S.fold IntOp.minsi init g = g r)
      ∧ ∀ r ∈ S, (S.fold IntOp.minsi init g).toInt ≤ (g r).toInt := by
  have hmin : ∀ a b : BitVec 32, (IntOp.minsi a b = a ∧ a.toInt ≤ b.toInt) ∨ (IntOp.minsi a b = b ∧ b.toInt ≤ a.toInt) := by
    intro a b
    simp only [IntOp.minsi, BitVec.slt, decide_eq_true_eq]
    split_ifs
    · left; exact ⟨rfl, by omega⟩
    · right; exact ⟨rfl, by omega⟩
  induction S using Finset.induction_on with
  | empty => exact ⟨Or.inl rfl, by simp⟩
  | insert a S ha ih =>
    rw [Finset.fold_insert ha]
    rcases hmin (g a) (S.fold IntOp.minsi init g) with ⟨e, le⟩ | ⟨e, le⟩
    · rw [e]
      refine ⟨Or.inr ⟨a, Finset.mem_insert_self _ _, rfl⟩, fun r hr => ?_⟩
      rcases Finset.mem_insert.mp hr with rfl | hr
      · exact le_rfl
      · exact le.trans (ih.2 r hr)
    · rw [e]
      refine ⟨?_, fun r hr => ?_⟩
      · rcases ih.1 with h | ⟨r, hr, h⟩
        · exact Or.inl h
        · exact Or.inr ⟨r, Finset.mem_insert_of_mem hr, h⟩
      · rcases Finset.mem_insert.mp hr with rfl | hr
        · exact le
        · exact ih.2 r hr

/-- Folding by the maximum: nothing among the values is above it. -/
theorem le_fold_max {ι : Type} [DecidableEq ι] (init : EReal) (g : ι → EReal) (S : Finset ι) :
    ∀ r ∈ S, g r ≤ S.fold max init g := by
  induction S using Finset.induction_on with
  | empty => simp
  | insert a S ha ih =>
    rw [Finset.fold_insert ha]
    intro r hr
    rcases Finset.mem_insert.mp hr with rfl | hr
    · exact le_max_left _ _
    · exact (ih r hr).trans (le_max_right _ _)

/-- Folding by the maximum gives the start or one of the values. -/
theorem fold_max_mem {ι : Type} [DecidableEq ι] (init : EReal) (g : ι → EReal) (S : Finset ι) :
    S.fold max init g = init ∨ ∃ r ∈ S, S.fold max init g = g r := by
  induction S using Finset.induction_on with
  | empty => exact Or.inl rfl
  | insert a S ha ih =>
    rw [Finset.fold_insert ha]
    rcases max_choice (g a) (S.fold max init g) with h | h
    · exact Or.inr ⟨a, Finset.mem_insert_self _ _, h⟩
    · rw [h]
      rcases ih with h | ⟨r, hr, h⟩
      · exact Or.inl h
      · exact Or.inr ⟨r, Finset.mem_insert_of_mem hr, h⟩

/-- From the least value on, the maximum of a column with a row in it is held by a row. -/
theorem exists_eq_fold_max (g : Fin 8 → EReal) : ∃ r, g r = Finset.univ.fold max ⊥ g := by
  rcases fold_max_mem ⊥ g Finset.univ with h | ⟨r, _, h⟩
  · exact ⟨0, by rw [h]; exact le_bot_iff.mp (h ▸ le_fold_max ⊥ g Finset.univ 0 (Finset.mem_univ _))⟩
  · exact ⟨r, h.symm⟩

/-- The least code among the rows that hold the maximum is a code of greatest score. -/
theorem fold_codes {f : Fin 1024 → EReal} {v : Fin 8 → EReal} {b : Fin 8 → BitVec 32}
    (hall : ∀ r, ∃ k : Fin 1024, b r = BitVec.ofNat 32 k.val ∧ v r = f k) (htop : ∀ k, ∃ r, f k ≤ v r) :
    ∃ k : Fin 1024, Finset.univ.fold IntOp.minsi 2147483647#32
        (fun r => if v r = Finset.univ.fold max ⊥ v then b r else 1024#32) = BitVec.ofNat 32 k.val ∧ ∀ j, f j ≤ f k := by
  obtain ⟨r₀, h₀⟩ := exists_eq_fold_max v
  obtain ⟨hmem, hle⟩ := fold_minsi 2147483647#32 (fun r => if v r = Finset.univ.fold max ⊥ v then b r else 1024#32) Finset.univ
  have small : ∀ k : Fin 1024, (BitVec.ofNat 32 k.val).toInt = k.val := fun k => by
    have hk := k.isLt
    have e : (BitVec.ofNat 32 k.val).toNat = k.val := by
      rw [BitVec.toNat_ofNat]; exact Nat.mod_eq_of_lt (by omega)
    rw [BitVec.toInt_eq_toNat_of_lt (by omega), e]
  have hlt := hle r₀ (Finset.mem_univ _)
  obtain ⟨k₀, hb₀, _⟩ := hall r₀
  simp only [h₀, if_true] at hlt
  rw [hb₀, small] at hlt
  have hk₀ := k₀.isLt
  rcases hmem with h | ⟨r, _, h⟩
  · rw [h] at hlt
    have : (2147483647#32).toInt = 2147483647 := by decide
    omega
  · rw [h] at hlt ⊢
    by_cases hr : v r = Finset.univ.fold max ⊥ v
    · simp only [hr, if_true]
      obtain ⟨k, hb, hk⟩ := hall r
      refine ⟨k, hb, fun j => ?_⟩
      obtain ⟨r', h'⟩ := htop j
      rw [← hk, hr]
      exact h'.trans (le_fold_max ⊥ v _ r' (Finset.mem_univ _))
    · simp only [hr, if_false] at hlt
      have : (1024#32).toInt = 1024 := by decide
      omega

end Cert.Tournament

namespace Cert.KernelIdeal.Block

open Cert.KernelIdeal Cert.Tournament Gen

/-- The last step on eight rows: the least code among the rows that hold the column's maximum. -/
def lastStep (vals : FVec Ideal S8x8192 .f32) (ids : IVec S8x8192 32) : IVec S1x1x8192 32 :=
  shapeCast S1x1x8192
    (shapeCast S1x8192
      (multiReductionI .minsi [0] S8192
        (select (cmpf .oeq vals (broadcastTo S8x8192 (shapeCast S1x8192
            (multiReduction .maximumf [0] S8192 vals 0xFF800000#32 reduces_S8x8192_S8192 (.inl rfl) rfl)
            shapeCasts_S8192_S1x8192) broadcasts_S1x8192_S8x8192))
          ids (broadcast S8x8192 1024#32))
        2147483647#32 reduces_S8x8192_S8192 rfl)
      shapeCasts_S8192_S1x8192)
    shapeCasts_S1x8192_S1x1x8192

/-- The last step returns a code of greatest score. -/
theorem lastStep_apply {f : Fin 1024 → EReal} {vals : FVec Ideal S8x8192 .f32} {ids : IVec S8x8192 32}
    (a b : Fin 1) (c : Fin 8192) (L : Leads f c 8 vals ids) :
    ∃ k : Fin 1024, lastStep vals ids (ix3 a b c) = BitVec.ofNat 32 k.val ∧ ∀ j, f j ≤ f k := by
  have e : Ideal.ofBits .f32 0xFF800000#32 = ⊥ := by simp [Ideal.ofBits, Ideal.ieee]
  obtain ⟨k, hk, hj⟩ := fold_codes L.1 L.2
  refine ⟨k, ?_, hj⟩
  rw [← hk]
  unfold lastStep
  pointwise
  rw [e]

/-- At the start every row holds its own code and its own score. -/
theorem leads_start (V : FVec Ideal S1024x8192 .f32) (c : Fin 8192) :
    Leads (fun k => V (ix2 k c)) c 1024 V (iota .tc S1024x8192 32 [0]) :=
  ⟨fun r => ⟨r, by pointwise, rfl⟩, fun k => ⟨k, le_rfl⟩⟩

/-- What the body stores at lane `c` is a code of greatest score. -/
theorem stored_apply (W : Vec Ideal S1024x64 .f32) (xt : Vec Ideal S64x8192 .f32) (a b : Fin 1) (c : Fin 8192) :
    ∃ k : Fin 1024, k0_pay1 (k0_pay24 W xt) (k0_pay25 W xt) (k0_pay26 W xt) (k0_pay27 W xt) (k0_pay28 W xt) (ix3 a b c)
        = BitVec.ofNat 32 k.val ∧ ∀ j : Fin 1024, k0_pay2 W xt (ix2 j c) ≤ k0_pay2 W xt (ix2 k c) := by
  have L0 := leads_start (k0_pay2 W xt) c
  have L1 := L0.halve (n := 512) rfl slices_S1024x8192_o0_0_S512x8192 slices_S1024x8192_o512_0_S512x8192
  have L2 := L1.halve (n := 256) rfl slices_S512x8192_o0_0_S256x8192 slices_S512x8192_o256_0_S256x8192
  have L3 := L2.halve (n := 128) rfl slices_S256x8192_o0_0_S128x8192 slices_S256x8192_o128_0_S128x8192
  have L4 := L3.halve (n := 64) rfl slices_S128x8192_o0_0_S64x8192 slices_S128x8192_o64_0_S64x8192
  have L5 := L4.halve (n := 32) rfl slices_S64x8192_o0_0_S32x8192 slices_S64x8192_o32_0_S32x8192
  have L6 := L5.halve (n := 16) rfl slices_S32x8192_o0_0_S16x8192 slices_S32x8192_o16_0_S16x8192
  have L7 := L6.halve (n := 8) rfl slices_S16x8192_o0_0_S8x8192 slices_S16x8192_o8_0_S8x8192
  exact lastStep_apply a b c L7

/-- A code's score against a row: the inner product less half the code's squared length. -/
theorem score_apply (W : Vec Ideal S1024x64 .f32) (xt : Vec Ideal S64x8192 .f32) (k : Fin 1024) (c : Fin 8192) :
    k0_pay2 W xt (ix2 k c) = (∑ d : Fin 64, W (ix2 k d) * xt (ix2 d c))
      - Ideal.ofBits .f32 0x3F000000#32 * ∑ d : Fin 64, W (ix2 k d) * W (ix2 k d) := by
  pointwise [k0_pay2]

end Cert.KernelIdeal.Block
-- ==== Proof.Array.lean ====
/-
  What the kernel's result array holds after the run, row by row: a code of greatest score.
-/
module

public import proofs.«01_k».proof.Defs
public import proofs.«01_k».proof.Proof.Gen.KernelIdeal.Frame
public import proofs.«01_k».proof.Proof.Gen.KernelIdeal.Points
public import proofs.«01_k».proof.Proof.Tournament
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Array

open Cert.KernelIdeal Cert.KernelIdeal.Gen

variable (m : (ℓ : Loc nD τ sig) → Buf (Elt Ideal) ℓ)

/-- Block `t` of the rows, one row per lane. -/
def rowsT (x : Vec Ideal S65536x64 .f32) (t : Fin 8) : Vec Ideal S64x8192 .f32 :=
  fun y => x (ix2 ⟨t.val * 8192 + (y 1).val, by have := t.isLt; have : (y 1).val < 8192 := (y 1).isLt; omega⟩ (y 0))

/-- What the body stores for block `t` of the rows. -/
def blockOut (x : Vec Ideal S65536x64 .f32) (W : Vec Ideal S1024x64 .f32) (t : Fin 8) : IVec S1x1x8192 32 :=
  k0_pay1 (k0_pay24 W (rowsT x t)) (k0_pay25 W (rowsT x t)) (k0_pay26 W (rowsT x t)) (k0_pay27 W (rowsT x t)) (k0_pay28 W (rowsT x t))

/-- The array the blocks make up. -/
def blocks (x : Vec Ideal S65536x64 .f32) (W : Vec Ideal S1024x64 .f32) : IVec S8x1x8192 32 :=
  fun i => blockOut x W (i 0) (ix3 0 0 (i 2))

/-- The transposed rows, as the region finds them. -/
theorem V_main_v0 (c : Dev nD) :
    V m c main_v0 = transpose S64x65536 [1, 0] (m (c.tc.loc main_arg0)) transposes_S65536x64_S64x65536_1_0 := by
  show StableHlo.after hostOps0 (fun b => m (c, b)) (Proc.devRef .tc main_v0) = _
  unfold hostOps0
  after_results
/-- The block of the transposed rows that point `t` reads. -/
theorem iblk0 (c : Dev nD) (t : Fin cfg0.N) (t' : Fin 8) (ht : t'.val = t.val) :
    iblk m c 0 t = rowsT (m (c.tc.loc main_arg0)) t' := by
  have idx : ∀ t : Fin cfg0.N, (cfg0.win 0).index t 0 = 0 ∧ (cfg0.win 0).index t 1 = t.val := by decide +kernel
  have e : ∀ y, iblk m c 0 t y = transpose S64x65536 [1, 0] (m (c.tc.loc main_arg0)) transposes_S65536x64_S64x65536_1_0
      (((cfg0.win 0).blk t).view.emb y) := fun y => by
    rw [← V_main_v0]; rfl
  funext y
  rw [e y]
  unfold rowsT
  pointwise
  blk_ext [idx t, ht]

/-- The codebook, whole at every point. -/
theorem iblk1 (c : Dev nD) (t : Fin cfg0.N) : iblk m c 1 t = m (c.tc.loc main_arg1) := by
  funext y
  have idx : ∀ t : Fin cfg0.N, (cfg0.win 1).index t 0 = 0 ∧ (cfg0.win 1).index t 1 = 0 := by decide +kernel
  blk_ext [iblk, V_main_arg1, idx t]

/-- The output array after the region: block by block what the body stores. -/
theorem arr (c : Dev nD) :
    (dats m 0 c).arrAt 2 cfg0.N = blocks (m (c.tc.loc main_arg0)) (m (c.tc.loc main_arg1)) := by
  refine (dats m 0 c).arrAt_eq_of_covers 2 _ (by decide +kernel) fun t hf y => ?_
  blk_simp
  rw [after0_2]
  have h8 : t.val < 8 := by have := t.isLt; simpa [N_0] using this
  rw [iblk0 m c t ⟨t.val, h8⟩ rfl, iblk1 m c t]
  frame_out
  have idx : ∀ t : Fin cfg0.N, (cfg0.win 2).index t 0 = t.val ∧ (cfg0.win 2).index t 1 = 0 ∧ (cfg0.win 2).index t 2 = 0 := by
    decide +kernel
  have e0 : (((cfg0.win 2).blk t).view.emb y) 0 = (⟨t.val, h8⟩ : Fin 8) := Fin.ext (by
    have hy : (y 0).val < 1 := (y 0).isLt
    blk_simp [idx t])
  have e2 : (((cfg0.win 2).blk t).view.emb y) 2 = y 2 := Fin.ext (by blk_simp [idx t])
  have ey : y = ix3 0 0 (y 2) := by
    funext a
    have hy0 : (y 0).val < 1 := (y 0).isLt
    have hy1 : (y 1).val < 1 := (y 1).isLt
    match a with
    | ⟨0, _⟩ => exact Fin.ext (Nat.lt_one_iff.mp hy0)
    | ⟨1, _⟩ => exact Fin.ext (Nat.lt_one_iff.mp hy1)
    | ⟨2, _⟩ => rfl
  show _ = blockOut _ _ ((((cfg0.win 2).blk t).view.emb y) 0) (ix3 0 0 ((((cfg0.win 2).blk t).view.emb y) 2))
  rw [e0, e2]
  exact congrArg (blockOut (m (c.tc.loc main_arg0)) (m (c.tc.loc main_arg1)) ⟨t.val, h8⟩) ey

/-- The result array is the output array, flattened. -/
theorem result (c : Dev nD) :
    Pipeline.afterTail₀ cfgs (dats m) 0 (V0 m) [hostOps1] c main_v2
      = shapeCast S65536 ((dats m 0 c).arrAt 2 cfg0.N) shapeCasts_S8x1x8192_S65536 := by
  unfold Pipeline.afterTail₀
  show StableHlo.after hostOps1 _ (Proc.devRef .tc main_v2) = _
  unfold hostOps1
  after_results
  have e := Pipeline.withArrays_arr spec0 launch0.win.arr_inj c (V0 m c) (fun w => (dats m 0 c).arrAt w cfg0.N) 2
  funext i
  exact congrFun (congrArg (fun A => shapeCast S65536 A shapeCasts_S8x1x8192_S65536) e) i

/-- Flattened, row `n` is lane `n % 8192` of block `n / 8192`. -/
theorem flat_apply (A : IVec S8x1x8192 32) (n : Fin 65536) :
    shapeCast S65536 A shapeCasts_S8x1x8192_S65536 (ix1 n)
      = A (ix3 ⟨n.val / 8192, by omega⟩ 0 ⟨n.val % 8192, by omega⟩) := by
  pointwise

/-- Row `n` of the result is lane `n % 8192` of block `n / 8192`. -/
theorem result_apply (c : Dev nD) (n : Fin 65536) :
    Pipeline.afterTail₀ cfgs (dats m) 0 (V0 m) [hostOps1] c main_v2 (ix1 n)
      = blocks (m (c.tc.loc main_arg0)) (m (c.tc.loc main_arg1)) (ix3 ⟨n.val / 8192, by omega⟩ 0 ⟨n.val % 8192, by omega⟩) := by
  rw [result, arr]
  exact flat_apply _ n

/-- A code's score against row `n`: the inner product less half the code's squared length. -/
def score (x : Vec Ideal S65536x64 .f32) (W : Vec Ideal S1024x64 .f32) (n : Fin 65536) (k : Fin 1024) : EReal :=
  (∑ d : Fin 64, W (ix2 k d) * x (ix2 n d)) - Ideal.ofBits .f32 0x3F000000#32 * ∑ d : Fin 64, W (ix2 k d) * W (ix2 k d)

/-- Row `n` of the result is a code of greatest score against row `n`. -/
theorem result_best (c : Dev nD) (n : Fin 65536) :
    ∃ k : Fin 1024, Pipeline.afterTail₀ cfgs (dats m) 0 (V0 m) [hostOps1] c main_v2 (ix1 n) = BitVec.ofNat 32 k.val
      ∧ ∀ j, score (m (c.tc.loc main_arg0)) (m (c.tc.loc main_arg1)) n j
          ≤ score (m (c.tc.loc main_arg0)) (m (c.tc.loc main_arg1)) n k := by
  rw [result_apply]
  obtain ⟨k, hk, hj⟩ := Block.stored_apply (m (c.tc.loc main_arg1))
    (rowsT (m (c.tc.loc main_arg0)) ⟨n.val / 8192, by omega⟩) 0 0 ⟨n.val % 8192, by omega⟩
  have hs : ∀ j, k0_pay2 (m (c.tc.loc main_arg1)) (rowsT (m (c.tc.loc main_arg0)) ⟨n.val / 8192, by omega⟩)
      (ix2 j ⟨n.val % 8192, by omega⟩) = score (m (c.tc.loc main_arg0)) (m (c.tc.loc main_arg1)) n j := fun j => by
    rw [Block.score_apply]
    have en : (⟨n.val / 8192 * 8192 + n.val % 8192, by omega⟩ : Fin 65536) = n := Fin.ext (by simp; omega)
    have er : ∀ d : Fin 64, rowsT (m (c.tc.loc main_arg0)) ⟨n.val / 8192, by omega⟩ (ix2 d ⟨n.val % 8192, by omega⟩)
        = m (c.tc.loc main_arg0) (ix2 n d) := fun d => by
      show m (c.tc.loc main_arg0) (ix2 ⟨n.val / 8192 * 8192 + n.val % 8192, _⟩ d) = _
      rw [en]
    simp only [er, score]
  refine ⟨k, hk, fun j => ?_⟩
  rw [← hs j, ← hs k]
  exact hj j

end Cert.KernelIdeal.Array
-- ==== Proof.Distance.lean ====
/-
  The squared distance of a row to a code against the kernel's score: on finite rows and codes the distance is the row's
  squared length less twice the score, so a code of greatest score is a code of least distance.
-/
module

public import Idealize.ShloMosaic.Lib.Pointwise

@[expose] public section

noncomputable section

open Idealize.ShloMosaic

namespace Cert.Distance

/-- A row's score of a code: the inner product less half the code's squared length. -/
def score (x : Fin 64 → EReal) (W : Fin 1024 → Fin 64 → EReal) (k : Fin 1024) : EReal :=
  (∑ d, W k d * x d) - Ideal.ofBits .f32 0x3F000000#32 * ∑ d, W k d * W k d

/-- The squared distance of a row to a code, multiplied out. -/
def sqDist (x : Fin 64 → EReal) (W : Fin 1024 → Fin 64 → EReal) (k : Fin 1024) : EReal :=
  ((∑ d, x d * x d) + ∑ d, W k d * W k d) - Ideal.ofBits .f32 0x40000000#32 * ∑ d, x d * W k d

/-- The bits of two are the number two. -/
theorem two_eq : Ideal.ofBits .f32 0x40000000#32 = ((2 : ℝ) : EReal) := by
  simp [Ideal.ofBits, Ideal.ieee]
  rw [← EReal.coe_mul]
  norm_num

/-- The bits of a half are the number one half. -/
theorem half_eq : Ideal.ofBits .f32 0x3F000000#32 = ((1 / 2 : ℝ) : EReal) := by
  simp [Ideal.ofBits, Ideal.ieee]
  rw [← EReal.coe_mul]
  norm_num

/-- The bits of infinity are the top value. -/
theorem top_eq : Ideal.ofBits .f32 0x7F800000#32 = ⊤ := by simp [Ideal.ofBits, Ideal.ieee]

/-- A magnitude below the top is that of a real number. -/
theorem exists_real {a : EReal} (h : max a (-a) < ⊤) : ∃ r : ℝ, a = (r : EReal) := by
  induction a using EReal.rec with
  | bot => simp at h
  | top => simp at h
  | coe r => exact ⟨r, rfl⟩

/-- A sum of real numbers, taken among the extended reals. -/
theorem coe_sum (f : Fin 64 → ℝ) : ∑ d, ((f d : ℝ) : EReal) = ((∑ d, f d : ℝ) : EReal) := by
  have : ∀ S : Finset (Fin 64), ∑ d ∈ S, ((f d : ℝ) : EReal) = ((∑ d ∈ S, f d : ℝ) : EReal) := by
    intro S
    induction S using Finset.induction_on with
    | empty => simp
    | insert a S ha ih => rw [Finset.sum_insert ha, Finset.sum_insert ha, ih, EReal.coe_add]
  exact this _

variable {x : Fin 64 → EReal} {W : Fin 1024 → Fin 64 → EReal} {a : Fin 64 → ℝ} {w : Fin 1024 → Fin 64 → ℝ}

/-- The score of real numbers is the real score. -/
theorem score_real (hx : ∀ d, x d = (a d : EReal)) (hW : ∀ k d, W k d = (w k d : EReal)) (k : Fin 1024) :
    score x W k = ((∑ d, w k d * a d - 1 / 2 * ∑ d, w k d * w k d : ℝ) : EReal) := by
  simp only [score, hx, hW, half_eq, ← EReal.coe_mul, coe_sum, ← EReal.coe_sub]

/-- The distance of real numbers is the real distance. -/
theorem sqDist_real (hx : ∀ d, x d = (a d : EReal)) (hW : ∀ k d, W k d = (w k d : EReal)) (k : Fin 1024) :
    sqDist x W k = (((∑ d, a d * a d) + ∑ d, w k d * w k d - 2 * ∑ d, a d * w k d : ℝ) : EReal) := by
  simp only [sqDist, hx, hW, two_eq, ← EReal.coe_mul, coe_sum, ← EReal.coe_sub, ← EReal.coe_add]

/-- A finite row's distance to a finite code is below the top. -/
theorem sqDist_lt_top (hx : ∀ d, max (x d) (-(x d)) < ⊤) (hW : ∀ k d, max (W k d) (-(W k d)) < ⊤) (k : Fin 1024) :
    sqDist x W k < ⊤ := by
  choose a ha using fun d => exists_real (hx d)
  choose w hw using fun k d => exists_real (hW k d)
  rw [sqDist_real ha hw]
  exact EReal.coe_lt_top _

/-- A code of greatest score is a code of least distance. -/
theorem least_of_best (hx : ∀ d, max (x d) (-(x d)) < ⊤) (hW : ∀ k d, max (W k d) (-(W k d)) < ⊤) {k : Fin 1024}
    (h : ∀ j, score x W j ≤ score x W k) (j : Fin 1024) : sqDist x W k ≤ sqDist x W j := by
  choose a ha using fun d => exists_real (hx d)
  choose w hw using fun k d => exists_real (hW k d)
  have hj := h j
  rw [score_real ha hw, score_real ha hw, EReal.coe_le_coe_iff] at hj
  rw [sqDist_real ha hw, sqDist_real ha hw, EReal.coe_le_coe_iff]
  have e : ∀ i, ∑ d, w i d * a d = ∑ d, a d * w i d := fun i => Finset.sum_congr rfl fun d _ => mul_comm _ _
  rw [e, e] at hj
  linarith

/-- A value no greater than any other is the minimum. -/
theorem eq_fold_min {f : Fin 1024 → EReal} {k : Fin 1024} (h : ∀ j, f k ≤ f j) : f k = Finset.univ.fold min ⊤ f :=
  le_antisymm (Finset.le_fold_min _ |>.mpr ⟨le_top, fun j _ => h j⟩)
    (Finset.fold_min_le _ |>.mpr (Or.inr ⟨k, Finset.mem_univ _, le_rfl⟩))

end Cert.Distance
-- ==== Proof.Mask.lean ====
/-
  The mask at a row: set, it says the row and the codebook are finite and one code alone has the least distance.
-/
module

public import proofs.«01_k».proof.Defs
public import proofs.«01_k».proof.Proof.Gen.On_one_nearest
public import proofs.«01_k».proof.Proof.Distance
public import Idealize.ShloMosaic.Lib.IndicatorCount
public import Idealize.ShloMosaic.Lib.Pointwise

@[expose] public section

set_option maxRecDepth 16384

noncomputable section

open Idealize.ShloMosaic Idealize.SL.Sem

namespace Cert.On_one_nearest.Read

open Cert.On_one_nearest Cert.Distance

/-- Two bits and to one exactly when both are one. -/
theorem andi_one {a b : BitVec 1} (h : IntOp.andi a b = 1#1) : a = 1#1 ∧ b = 1#1 := by
  rcases BitVec.eq_zero_or_eq_one a with rfl | rfl <;> rcases BitVec.eq_zero_or_eq_one b with rfl | rfl <;>
    simp [IntOp.andi] at h ⊢

/-- A fold of bits by and is one only when every bit is. -/
theorem fold_andi_one {ι : Type} [DecidableEq ι] (g : ι → BitVec 1) (S : Finset ι)
    (h : S.fold IntOp.andi 1#1 g = 1#1) : ∀ r ∈ S, g r = 1#1 := by
  induction S using Finset.induction_on with
  | empty => simp
  | insert a S ha ih =>
    rw [Finset.fold_insert ha] at h
    obtain ⟨h1, h2⟩ := andi_one h
    intro r hr
    rcases Finset.mem_insert.mp hr with rfl | hr
    · exact h1
    · exact ih h2 r hr

/-- A bit made from a test is one exactly when the test holds. -/
theorem ofBool_one {p : Prop} [Decidable p] (h : BitVec.ofBool (decide p) = 1#1) : p := by
  by_contra hp
  simp [hp] at h

/-- Words that test equal are equal. -/
theorem eq_of_cmpi {a b : BitVec 32} (h : IntOp.cmpi .eq a b = 1#1) : a = b := by
  by_contra hne
  have e : (a == b) = false := beq_eq_false_iff_ne.mpr hne
  simp [IntOp.cmpi, e] at h

/-- A count of one among the 1024 codes leaves no two of them. -/
theorem unique_of_count (p : Fin 1024 → BitVec 1)
    (h : IntOp.cmpi .eq (Finset.univ.fold IntOp.addi 0#32 fun k => (p k).setWidth 32) 1#32 = 1#1) :
    ∀ i j, p i = 1#1 → p j = 1#1 → i = j := by
  have e : (Finset.univ.fold IntOp.addi 0#32 fun k => (p k).setWidth 32) = 1#32 :=
    eq_of_cmpi h
  rw [IndicatorCount.fold_addi_setWidth_eq_card] at e
  have hle : (Finset.univ.filter fun k => p k = 1#1).card ≤ 1024 :=
    (Finset.card_le_univ _).trans (Fintype.card_fin 1024).le
  have hc : (Finset.univ.filter fun k => p k = 1#1).card = 1 := by
    have := congrArg BitVec.toNat e
    rw [BitVec.toNat_ofNat, Nat.mod_eq_of_lt (by omega)] at this
    exact this
  intro i j hi hj
  exact Finset.card_le_one.mp hc.le i (Finset.mem_filter.mpr ⟨Finset.mem_univ _, hi⟩) j (Finset.mem_filter.mpr ⟨Finset.mem_univ _, hj⟩)

/-- What the mask says at row `n` where it is set. -/
theorem mask_apply (x : FVec Ideal S65536x64 .f32) (W : FVec Ideal S1024x64 .f32) (n : Fin 65536) (h : fn x W (ix1 n) = 1#1) :
    (∀ d : Fin 64, max (x (ix2 n d) : EReal) (-(x (ix2 n d))) < ⊤)
      ∧ (∀ (k : Fin 1024) (d : Fin 64), max (W (ix2 k d) : EReal) (-(W (ix2 k d))) < ⊤)
      ∧ ∀ i j : Fin 1024,
        sqDist (fun d => x (ix2 n d)) (fun k d => W (ix2 k d)) i = Finset.univ.fold min ⊤ (sqDist (fun d => x (ix2 n d)) (fun k d => W (ix2 k d)))
        → sqDist (fun d => x (ix2 n d)) (fun k d => W (ix2 k d)) j = Finset.univ.fold min ⊤ (sqDist (fun d => x (ix2 n d)) (fun k d => W (ix2 k d)))
        → i = j := by
  pointwise [fn, fn_part1] at h
  rw [top_eq] at h
  obtain ⟨h1, h2⟩ := andi_one h
  obtain ⟨h3, h4⟩ := andi_one h2
  refine ⟨fun d => ofBool_one (fold_andi_one _ _ h3 d (Finset.mem_univ _)),
    fun k d => ofBool_one (fold_andi_one _ _ h4 (k, d) (Finset.mem_univ _)), fun i j hi hj => ?_⟩
  refine unique_of_count _ h1 i j ?_ ?_
  · exact (congrArg BitVec.ofBool (decide_eq_true hi))
  · exact (congrArg BitVec.ofBool (decide_eq_true hj))

end Cert.On_one_nearest.Read
-- ==== Proof.Reference.lean ====
/-
  What the reference computes: at a row whose distances are below the top, a code of least distance.
-/
module

public import proofs.«01_k».proof.Defs
public import proofs.«01_k».proof.Proof.Gen.ReferenceIdeal
public import proofs.«01_k».proof.Proof.Distance
public import Idealize.ShloMosaic.Lib.Pointwise
public import Idealize.ShloMosaic.PureOps.Reduce

@[expose] public section

set_option maxRecDepth 16384

noncomputable section

open Idealize.ShloMosaic Idealize.ShloMosaic.TcCoe Idealize.SL.Sem

namespace Cert.ReferenceIdeal.Argmin

open Cert.ReferenceIdeal Cert.ReferenceIdeal.Gen Cert.Distance

/-- The distances as the reference composes them. -/
def dists (x : FVec Ideal S65536x64 .f32) (W : FVec Ideal S1024x64 .f32) : FVec Ideal S65536x1024 .f32 :=
  subf
    (addf
      (broadcastInDim S65536x1024 ![0, 1] bcast_S65536x1_S65536x1024_0_1 (broadcastInDim S65536x1 ![0] bcast_S65536_S65536x1_0
        (Host.reduceAdd (mulf x x) (constant S_ .f32 0#32) reducesTo_S65536x64_S65536_d1 h_S_)))
      (broadcastInDim S65536x1024 ![0, 1] bcast_S1x1024_S65536x1024_0_1 (broadcastInDim S1x1024 ![1] bcast_S1024_S1x1024_1
        (Host.reduceAdd (mulf W W) (constant S_ .f32 0#32) reducesTo_S1024x64_S1024_d1 h_S_))))
    (mulf (broadcastInDim S65536x1024 ![] bcast_S_S65536x1024 (constant S_ .f32 0x40000000#32))
      (Host.dotGeneral dot_S65536x64_S64x1024_S65536x1024_1_0_0_1_n_n none x
        (transpose S64x1024 [1, 0] W transposes_S1024x64_S64x1024_1_0)))

/-- The distances at a row and a code. -/
theorem dists_apply (x : FVec Ideal S65536x64 .f32) (W : FVec Ideal S1024x64 .f32) (n : Fin 65536) (k : Fin 1024) :
    dists x W (ix2 n k) = sqDist (fun d => x (ix2 n d)) (fun k d => W (ix2 k d)) k := by
  unfold sqDist
  pointwise [dists]

/-- The comparison keeps one of its two pairs, whose value is no greater than either. -/
theorem reducer_spec (a b : EReal × BitVec 32) :
    (reducer_argmin_f32_i32 (F := Ideal) a b = a ∨ reducer_argmin_f32_i32 (F := Ideal) a b = b)
      ∧ (reducer_argmin_f32_i32 (F := Ideal) a b).1 ≤ a.1 ∧ (reducer_argmin_f32_i32 (F := Ideal) a b).1 ≤ b.1 := by
  obtain ⟨a1, a2⟩ := a
  obtain ⟨b1, b2⟩ := b
  have e : reducer_argmin_f32_i32 (F := Ideal) (a1, a2) (b1, b2)
      = (if a1 < b1 then a1 else b1, if a1 < b1 ∨ (a1 = b1 ∧ a2.slt b2) then a2 else b2) := by
    simp only [reducer_argmin_f32_i32, Ideal.cmpf_def, Ideal.cmp, IntOp.ori, IntOp.andi, IntOp.cmpi, Scalar.select]
    by_cases h1 : a1 < b1 <;> by_cases h2 : a1 = b1 <;> by_cases h3 : a2.slt b2 <;> simp [h1, h2, h3]
  rw [e]
  by_cases h1 : a1 < b1
  · simp [h1, h1.le]
  · by_cases h2 : a1 = b1
    · subst h2
      by_cases h3 : a2.slt b2 <;> simp [h3]
    · simp [h1, h2, not_lt.mp h1]

/-- The fold over a list keeps the start or one of the pairs, whose value is no greater than any. -/
theorem foldl_spec (l : List (EReal × BitVec 32)) (init : EReal × BitVec 32) :
    (l.foldl (reducer_argmin_f32_i32 (F := Ideal)) init = init ∨ l.foldl (reducer_argmin_f32_i32 (F := Ideal)) init ∈ l)
      ∧ (l.foldl (reducer_argmin_f32_i32 (F := Ideal)) init).1 ≤ init.1
      ∧ ∀ p ∈ l, (l.foldl (reducer_argmin_f32_i32 (F := Ideal)) init).1 ≤ p.1 := by
  induction l generalizing init with
  | nil => exact ⟨Or.inl rfl, le_rfl, by simp⟩
  | cons p l ih =>
    obtain ⟨hmem, hinit, hall⟩ := ih (reducer_argmin_f32_i32 (F := Ideal) init p)
    obtain ⟨hr, ha, hb⟩ := reducer_spec init p
    rw [List.foldl_cons]
    refine ⟨?_, hinit.trans ha, fun q hq => ?_⟩
    · rcases hmem with h | h
      · rw [h]
        rcases hr with h | h <;> rw [h]
        · exact Or.inl rfl
        · exact Or.inr (List.mem_cons_self ..)
      · exact Or.inr (List.mem_cons_of_mem _ h)
    · rcases List.mem_cons.mp hq with rfl | hq
      · exact hinit.trans hb
      · exact hall q hq

/-- The pairs of row `n` are its codes' values with the codes. -/
theorem mem_fiber (D : FVec Ideal S65536x1024 .f32) (n : Fin 65536) (p : EReal × BitVec 32) :
    p ∈ Host.argReduceFiber D (iotaInDim S65536x1024 32 1) reducesTo_S65536x1024_S65536_d1 (ix1 n)
      ↔ ∃ k : Fin 1024, p = (D (ix2 n k), BitVec.ofNat 32 k.val) := by
  have hdrop : ∀ i : S65536x1024.Idx, (reducesTo_S65536x1024_S65536_d1.drop i = ix1 n) ↔ i 0 = n := fun i => by
    have hv : (reducesTo_S65536x1024_S65536_d1.drop i 0 : Nat) = i 0 :=
      Shape.ReducesTo.drop_apply_val_of_eq reducesTo_S65536x1024_S65536_d1 i 0 0
    constructor
    · intro h
      rw [h] at hv
      exact Fin.ext hv.symm
    · intro h
      funext a
      match a with
      | ⟨0, _⟩ => exact Fin.ext (hv.trans (congrArg Fin.val h))
  simp only [Host.argReduceFiber, List.mem_map, List.mem_filter, List.mem_finRange, true_and, decide_eq_true_eq, hdrop]
  constructor
  · rintro ⟨q, hq, rfl⟩
    refine ⟨(S65536x1024.rowMajor.symm q) 1, ?_⟩
    have e : S65536x1024.rowMajor.symm q = ix2 n ((S65536x1024.rowMajor.symm q) 1) := by
      rw [← hq]; exact eq_ix2 _
    rw [e]
    rfl
  · rintro ⟨k, rfl⟩
    refine ⟨S65536x1024.rowMajor (ix2 n k), ?_, ?_⟩
    · rw [Equiv.symm_apply_apply]; rfl
    · rw [Equiv.symm_apply_apply]; rfl

/-- The reference's index at a row of distances below the top: a code whose distance is no greater than any. -/
theorem argmin_apply (D : FVec Ideal S65536x1024 .f32) (n : Fin 65536) (hD : ∀ k : Fin 1024, (D (ix2 n k) : EReal) < ⊤) :
    ∃ k : Fin 1024, (Host.argReduce reducer_argmin_f32_i32 D (iotaInDim S65536x1024 32 1) (constant S_ .f32 0x7F800000#32)
        (constantI S_ 32 0#32) reducesTo_S65536x1024_S65536_d1 h_S_ (ix1 n)).2 = BitVec.ofNat 32 k.val
      ∧ ∀ j : Fin 1024, (D (ix2 n k) : EReal) ≤ D (ix2 n j) := by
  rw [Ideal.argReduce_eq_reduce2, Host.reduce2_eq_foldl_fiber]
  obtain ⟨hmem, -, hall⟩ := foldl_spec (Host.argReduceFiber D (iotaInDim S65536x1024 32 1) reducesTo_S65536x1024_S65536_d1 (ix1 n))
    (constant (F := Ideal) S_ .f32 0x7F800000#32 (Shape.Idx.first h_S_), constantI S_ 32 0#32 (Shape.Idx.first h_S_))
  have hle : ∀ j : Fin 1024, _ ≤ (D (ix2 n j) : EReal) := fun j => hall _ ((mem_fiber D n _).mpr ⟨j, rfl⟩)
  rcases hmem with h | h
  · have h0 := hle 0
    rw [h] at h0
    exact absurd (lt_of_le_of_lt h0 (hD 0)) (by
      show ¬ Ideal.ofBits .f32 0x7F800000#32 < ⊤
      rw [top_eq]; exact lt_irrefl _)
  · obtain ⟨k, hk⟩ := (mem_fiber D n _).mp h
    refine ⟨k, congrArg Prod.snd hk, fun j => ?_⟩
    have := hle j
    rw [hk] at this
    exact this

end Cert.ReferenceIdeal.Argmin
-- ==== Proof.Equation.lean ====
/- The equation: at a row the mask holds, the reference's index and the kernel's are the same code. -/
module

public import proofs.«01_k».proof.Proof.Array
public import proofs.«01_k».proof.Proof.Mask
public import proofs.«01_k».proof.Proof.Reference

@[expose] public section

noncomputable section

namespace Cert.Equation

open Idealize.ShloMosaic Idealize.SL.Sem

/-- Where the mask is set, the reference's index is the kernel's. -/
theorem index_eq (m : (ℓ : Loc KernelIdeal.nD KernelIdeal.τ KernelIdeal.sig) → Buf (Elt Ideal) ℓ) (c : Dev KernelIdeal.nD)
    (i : (⟨1, ![65536]⟩ : Shape).Idx)
    (h : On_one_nearest.fn (F := Ideal) (m (c.tc.loc KernelIdeal.main_arg0)) (m (c.tc.loc KernelIdeal.main_arg1)) i = 1#1) :
    (Host.argReduce ReferenceIdeal.reducer_argmin_f32_i32
        (ReferenceIdeal.Argmin.dists (m (c.tc.loc KernelIdeal.main_arg0)) (m (c.tc.loc KernelIdeal.main_arg1)))
        (iotaInDim ReferenceIdeal.S65536x1024 32 1) (constant ReferenceIdeal.S_ .f32 0x7F800000#32)
        (constantI ReferenceIdeal.S_ 32 0#32) ReferenceIdeal.Gen.reducesTo_S65536x1024_S65536_d1 ReferenceIdeal.Gen.h_S_ i).2
      = Pipeline.afterTail₀ KernelIdeal.cfgs (KernelIdeal.Gen.dats m) 0 (KernelIdeal.Gen.V0 m) [KernelIdeal.Gen.hostOps1] c
          KernelIdeal.main_v2 i := by
  obtain ⟨n, rfl⟩ : ∃ n : Fin 65536, i = ix1 n := ⟨i 0, eq_ix1 i⟩
  obtain ⟨hx, hW, huniq⟩ := On_one_nearest.Read.mask_apply _ _ n h
  obtain ⟨k, hk, hbest⟩ := KernelIdeal.Array.result_best m c n
  obtain ⟨k', hk', hleast⟩ := ReferenceIdeal.Argmin.argmin_apply
    (ReferenceIdeal.Argmin.dists (m (c.tc.loc KernelIdeal.main_arg0)) (m (c.tc.loc KernelIdeal.main_arg1))) n
    (fun j => by rw [ReferenceIdeal.Argmin.dists_apply]; exact Distance.sqDist_lt_top hx hW j)
  rw [hk, hk']
  have e : k' = k := huniq k' k
    (Distance.eq_fold_min fun j => by
      have := hleast j
      rwa [ReferenceIdeal.Argmin.dists_apply, ReferenceIdeal.Argmin.dists_apply] at this)
    (Distance.eq_fold_min (Distance.least_of_best hx hW hbest))
  rw [e]

end Cert.Equation
-- ==== Proof.Nearest.lean ====
/-
  At every row: where the row and the codebook are finite, the kernel's index is a code of least distance, with ties or without.
-/
module

public import proofs.«01_k».proof.Defs
public import proofs.«01_k».proof.Proof.Gen.Post_nearest
public import proofs.«01_k».proof.Proof.Array
public import proofs.«01_k».proof.Proof.Mask
public import Idealize.ShloMosaic.Lib.Routing.OpsOrder

@[expose] public section

set_option maxRecDepth 16384

noncomputable section

open Idealize.ShloMosaic Idealize.SL.Sem

namespace Cert.Post_nearest.Read

open Cert.Post_nearest Cert.Distance

/-- A bit or the complement of another is one when the other's being one makes it one. -/
theorem ori_not_one {a b : BitVec 1} (h : b = 1#1 → a = 1#1) : IntOp.ori a (~~~b) = 1#1 := by
  rcases BitVec.eq_zero_or_eq_one b with rfl | rfl
  · rcases BitVec.eq_zero_or_eq_one a with rfl | rfl <;> simp [IntOp.ori]
  · rw [h rfl]; simp [IntOp.ori]

/-- Two bits that are one and to one. -/
theorem andi_both {a b : BitVec 1} (ha : a = 1#1) (hb : b = 1#1) : IntOp.andi a b = 1#1 := by
  rw [ha, hb]; rfl

/-- The post is set at row `n` if a finite row and a finite codebook make its index a code of least distance. -/
theorem post_apply (x : FVec Ideal S65536x64 .f32) (W : FVec Ideal S1024x64 .f32) (r : IVec S65536 32) (n : Fin 65536)
    (h : (∀ d : Fin 64, max (x (ix2 n d) : EReal) (-(x (ix2 n d))) < ⊤)
      → (∀ (k : Fin 1024) (d : Fin 64), max (W (ix2 k d) : EReal) (-(W (ix2 k d))) < ⊤)
      → ∃ k : Fin 1024, r (ix1 n) = BitVec.ofNat 32 k.val
        ∧ ∀ j, sqDist (fun d => x (ix2 n d)) (fun k d => W (ix2 k d)) k ≤ sqDist (fun d => x (ix2 n d)) (fun k d => W (ix2 k d)) j) :
    fn x W r (ix1 n) = 1#1 := by
  pointwise [fn, fn_part1]
  rw [top_eq]
  refine ori_not_one fun hf => ?_
  obtain ⟨h1, h2⟩ := On_one_nearest.Read.andi_one hf
  obtain ⟨k, hk, hleast⟩ := h
    (fun d => On_one_nearest.Read.ofBool_one (On_one_nearest.Read.fold_andi_one _ _ h1 d (Finset.mem_univ _)))
    (fun k d => On_one_nearest.Read.ofBool_one (On_one_nearest.Read.fold_andi_one _ _ h2 (k, d) (Finset.mem_univ _)))
  refine (Routing.fold_ori _ _).2 ⟨k, Finset.mem_univ _, ?_⟩
  rw [hk]
  refine andi_both ?_ (congrArg BitVec.ofBool (decide_eq_true (eq_fold_min hleast)))
  simp [IntOp.cmpi]

end Cert.Post_nearest.Read

namespace Cert.KernelIdeal.Array

open Cert.Distance

/-- The result array meets the post: at every row its index is a code of least distance, the row and the codebook being finite. -/
theorem result_nearest (m : (ℓ : Loc nD τ sig) → Buf (Elt Ideal) ℓ) (c : Dev nD) :
    Post_nearest.fn (F := Ideal) (m (c.tc.loc main_arg0)) (m (c.tc.loc main_arg1))
      (Pipeline.afterTail₀ cfgs (Gen.dats m) 0 (Gen.V0 m) [Gen.hostOps1] c main_v2) = fun _ => 1#1 := by
  funext i
  obtain ⟨n, rfl⟩ : ∃ n : Fin 65536, i = ix1 n := ⟨i 0, eq_ix1 i⟩
  refine Post_nearest.Read.post_apply _ _ _ n fun hx hW => ?_
  obtain ⟨k, hk, hbest⟩ := result_best m c n
  exact ⟨k, hk, least_of_best hx hW hbest⟩

end Cert.KernelIdeal.Array
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_one_nearest
public import proofs.«01_k».proof.Proof.Gen.Post_nearest
public import proofs.«01_k».proof.Proof.Equation
public import proofs.«01_k».proof.Proof.Nearest
public import Idealize.ShloMosaic.Adequacy
public import Idealize.ShloMosaic.Init
public import Idealize.ShloMosaic.Lib.Claim
public import Idealize.ShloMosaic.Lib.StableHlo.RunHlo

@[expose] public section

noncomputable section

namespace Cert.Proof

open Idealize.ShloMosaic Idealize.SL.Sem Cert.Kernel

/-- The kernel runs, keeps its operands and leaves every counter at zero. -/
theorem frame_kernel : Cert.quiescent_Kernel := fun m ρ _ => Cert.Kernel.Gen.frame m ρ
/-- So does its idealization. -/
theorem frame_ideal : Cert.quiescent_KernelIdeal := fun m ρ _ => Cert.KernelIdeal.Gen.frame m ρ
/-- So does the idealized reference. -/
theorem frame_ref : Cert.quiescent_ReferenceIdeal := by
  intro m ρ _
  hlo_run
  · exact fun _ => ⟨trivial, trivial⟩
  · exact sem_eq_zero_of_no_sems (sig := ReferenceIdeal.sig) (by decide) _

/-- Where the mask is set, the kernel's index and the reference's are the same. -/
theorem alg : Cert.algebraic_KernelIdeal_ReferenceIdeal_on_one_nearest := by
  pair_intro
  case refine_1 =>
    exact fun c => Pipeline.afterTail₀ KernelIdeal.cfgs (KernelIdeal.Gen.dats m) 0 (KernelIdeal.Gen.V0 m)
      [KernelIdeal.Gen.hostOps1] c KernelIdeal.main_v2
  · run_from Cert.KernelIdeal.Gen.run_main m g
    · exact fun _ _ => trivial
    · exact Cert.KernelIdeal.Gen.W_main_arg0 m (Cert.KernelIdeal.Gen.dats m) c
  · hlo_run
    · intro i h
      refine Eq.trans ?_ (Equation.index_eq m c i h)
      simp -implicitDefEqProofs only [StableHlo.TRef.toBuf, StableHlo.TRef.ofBuf, cast_cast, cast_eq]
      rfl

/-- At every row the kernel's index meets `nearest`. -/
theorem post : Cert.holds_KernelIdeal_nearest := by
  intro m g _
  run_from Cert.KernelIdeal.Gen.run_main m g
  · exact Cert.KernelIdeal.Gen.W_main_arg0 m (Cert.KernelIdeal.Gen.dats m) c
  · exact Cert.KernelIdeal.Array.result_nearest m c

/-- The whole certificate. -/
theorem claim : Cert.Claim := ⟨Cert.Kernel.Gen.facts, Cert.KernelIdeal.Gen.facts, Cert.ReferenceIdeal.Gen.facts,
  Cert.Post_nearest.Gen.facts, Cert.On_one_nearest.Gen.facts,
  frame_kernel, frame_ideal, frame_ref, trivial, alg, post⟩

end Cert.Proof

end
